-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x64 : Shape := ⟨2, ![8192, 64]⟩
abbrev S8192x8192 : Shape := ⟨2, ![8192, 8192]⟩
abbrev S16x1x512 : Shape := ⟨3, ![16, 1, 512]⟩
abbrev S512x64 : Shape := ⟨2, ![512, 64]⟩
abbrev S512x8192 : Shape := ⟨2, ![512, 8192]⟩
abbrev S1x1x512 : Shape := ⟨3, ![1, 1, 512]⟩
abbrev S512 : Shape := ⟨1, ![512]⟩
abbrev S512x1 : Shape := ⟨2, ![512, 1]⟩
abbrev S8192 : Shape := ⟨1, ![8192]⟩
abbrev S1x8192 : Shape := ⟨2, ![1, 8192]⟩
abbrev S512x4096 : Shape := ⟨2, ![512, 4096]⟩

abbrev nBuf : Space → Nat
  | .hbm => 6
  | .vmem => 9
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S8192x8192, .f32⟩
  | .hbm, ⟨4, _⟩ => ⟨S16x1x512, .i32⟩
  | .hbm, ⟨5, _⟩ => ⟨S8192, .i32⟩
  | .local _ .vmem, ⟨0, _⟩ => ⟨S512x64, .f32⟩
  | .local _ .vmem, ⟨1, _⟩ => ⟨S512x64, .f32⟩
  | .local _ .vmem, ⟨2, _⟩ => ⟨S8192x64, .f32⟩
  | .local _ .vmem, ⟨3, _⟩ => ⟨S512x64, .f32⟩
  | .local _ .vmem, ⟨4, _⟩ => ⟨S512x64, .f32⟩
  | .local _ .vmem, ⟨5, _⟩ => ⟨S512x8192, .f32⟩
  | .local _ .vmem, ⟨6, _⟩ => ⟨S512x8192, .f32⟩
  | .local _ .vmem, ⟨7, _⟩ => ⟨S1x1x512, .i32⟩
  | .local _ .vmem, ⟨8, _⟩ => ⟨S1x1x512, .i32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S64x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S_, .f32⟩
  | .hbm, ⟨21, _⟩ => ⟨S_, .i32⟩
  | .hbm, ⟨22, _⟩ => ⟨S8192, .f32⟩
  | .hbm, ⟨23, _⟩ => ⟨S8192, .i32⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S8192x8192, .f32⟩
  | .hbm, ⟨30, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Proof.FirstMin.lean ====
/-
  The first index at which a finite family of extended reals is least, and the folds that find it: the minimum and the
  least index attaining it, computed as 32-bit words; the join of two halves; and a fold over (value, index) pairs that
  keeps the lesser pair.
-/
module

public import Idealize.ShloMosaic.PureOps.Reduce
public import Idealize.ShloMosaic.PureOps.Ideal
public import Mathlib.Data.Prod.Lex
public import Mathlib.Data.Finset.Fold
public import Mathlib.Data.Fintype.Lattice
public import Mathlib.Data.EReal.Basic

@[expose] public section

noncomputable section

namespace Cert.FirstMin

open Idealize.ShloMosaic

/-- `k` is the first index at which `D` is least: no value is below `D k`, and no earlier index attains it. -/
def IsFirstMin {n : Nat} (D : Fin n → EReal) (k : Fin n) : Prop := ∀ j, D k ≤ D j ∧ (D j = D k → k ≤ j)

/-- The first index of the minimum is unique. -/
theorem IsFirstMin.unique {n : Nat} {D : Fin n → EReal} {k k' : Fin n} (h : IsFirstMin D k) (h' : IsFirstMin D k') :
    k = k' := by
  have e : D k = D k' := le_antisymm (h k').1 (h' k).1
  exact le_antisymm ((h k').2 e.symm) ((h' k).2 e)

/-- A family with at least one index has a first index of its minimum. -/
theorem exists_isFirstMin {n : Nat} [NeZero n] (D : Fin n → EReal) : ∃ k, IsFirstMin D k := by
  obtain ⟨k, hk⟩ := Finite.exists_min fun j => toLex (D j, j)
  refine ⟨k, fun j => ?_⟩
  have h := Prod.Lex.toLex_le_toLex'.mp (hk j)
  exact ⟨h.1, fun e => h.2 e.symm⟩

/-- The first index at which `D` is least. -/
def firstMin {n : Nat} [NeZero n] (D : Fin n → EReal) : Fin n := (exists_isFirstMin D).choose

/-- `firstMin D` is the first index of the minimum. -/
theorem firstMin_spec {n : Nat} [NeZero n] (D : Fin n → EReal) : IsFirstMin D (firstMin D) :=
  (exists_isFirstMin D).choose_spec

/-- Whatever is a first index of the minimum is `firstMin D`. -/
theorem IsFirstMin.eq_firstMin {n : Nat} [NeZero n] {D : Fin n → EReal} {k : Fin n} (h : IsFirstMin D k) :
    k = firstMin D := h.unique (firstMin_spec D)

/-- The fold of `min` from `⊤` is the value at the first index of the minimum. -/
theorem fold_min_eq {n : Nat} {D : Fin n → EReal} {k : Fin n} (h : IsFirstMin D k) :
    Finset.univ.fold min ⊤ D = D k :=
  le_antisymm ((Finset.fold_min_le _).mpr (.inr ⟨k, Finset.mem_univ k, le_rfl⟩))
    ((Finset.le_fold_min _).mpr ⟨le_top, fun j _ => (h j).1⟩)

/-- The signed reading of the signed minimum of two words is the lesser signed reading. -/
theorem toInt_minsi {w : Nat} (x y : BitVec w) : (IntOp.minsi x y).toInt = min x.toInt y.toInt := by
  unfold IntOp.minsi
  rw [BitVec.slt_eq_decide]
  by_cases h : x.toInt < y.toInt
  · simp [h, le_of_lt h]
  · simp [h, not_lt.mp h]

/-- A fold of the signed minimum is the word `v` when `v` is among the words and none, nor the initial one, is below. -/
theorem fold_minsi_eq {ι : Type} (s : Finset ι) (b v : BitVec 32) (f : ι → BitVec 32) (hb : v.toInt ≤ b.toInt)
    (hf : ∀ j ∈ s, v.toInt ≤ (f j).toInt) (hv : ∃ j ∈ s, f j = v) : s.fold IntOp.minsi b f = v := by
  apply BitVec.eq_of_toInt_eq
  rw [← Finset.fold_hom (op' := min) (m := BitVec.toInt) toInt_minsi]
  obtain ⟨j, hj, e⟩ := hv
  exact le_antisymm ((Finset.fold_min_le _).mpr (.inr ⟨j, hj, by rw [e]⟩)) ((Finset.le_fold_min _).mpr ⟨hb, hf⟩)

/-- The signed reading of a small index as a word is the index. -/
theorem toInt_ofNat {k : Nat} (h : k < 8192) : (BitVec.ofNat 32 k).toInt = k := by
  rw [BitVec.toInt_eq_toNat_of_lt (by rw [BitVec.toNat_ofNat]; omega), BitVec.toNat_ofNat]
  omega

/-- Among at most 8192 indices the signed minimum of the words of those where `D` attains its minimum, every other
    index standing as the word 8192, is the word of the first index of the minimum. -/
theorem fold_index_eq {n : Nat} (hn : n ≤ 8192) {D : Fin n → EReal} {k : Fin n} (h : IsFirstMin D k) :
    Finset.univ.fold IntOp.minsi 2147483647#32 (fun j : Fin n => if D j = D k then BitVec.ofNat 32 j.val else 8192#32)
      = BitVec.ofNat 32 k.val := by
  have hk := k.isLt
  have e8 : (8192#32 : BitVec 32).toInt = 8192 := by decide
  have eM : (2147483647#32 : BitVec 32).toInt = 2147483647 := by decide
  refine fold_minsi_eq _ _ _ _ (by rw [eM, toInt_ofNat (by omega)]; omega) (fun j _ => ?_)
    ⟨k, Finset.mem_univ k, if_pos rfl⟩
  have hj := j.isLt
  by_cases e : D j = D k
  · rw [if_pos e, toInt_ofNat (by omega), toInt_ofNat (by omega)]
    exact_mod_cast (h j).2 e
  · rw [if_neg e, e8, toInt_ofNat (by omega)]
    omega

/-- The first index of the minimum of a family of 8192 from those of its two halves: the second half's, moved by 4096,
    if its minimum is strictly less, and the first half's otherwise. -/
theorem firstMin_halves {D : Fin 8192 → EReal} {k₁ k₂ : Fin 4096}
    (h₁ : IsFirstMin (fun j : Fin 4096 => D ⟨j.val, by omega⟩) k₁)
    (h₂ : IsFirstMin (fun j : Fin 4096 => D ⟨4096 + j.val, by omega⟩) k₂) :
    (firstMin D).val = if D ⟨4096 + k₂.val, by omega⟩ < D ⟨k₁.val, by omega⟩ then 4096 + k₂.val else k₁.val := by
  by_cases hlt : D ⟨4096 + k₂.val, by omega⟩ < D ⟨k₁.val, by omega⟩
  · rw [if_pos hlt]
    have h : IsFirstMin D ⟨4096 + k₂.val, by omega⟩ := fun j => by
      by_cases hj : j.val < 4096
      · have hD := (h₁ ⟨j.val, hj⟩).1
        have := lt_of_lt_of_le hlt hD
        exact ⟨this.le, fun e => absurd e this.ne'⟩
      · have hs := h₂ ⟨j.val - 4096, by omega⟩
        have ej : (⟨4096 + (j.val - 4096), by omega⟩ : Fin 8192) = j := Fin.ext (by simp; omega)
        simp only [ej] at hs
        refine ⟨hs.1, fun e => ?_⟩
        have := hs.2 e
        rw [Fin.le_def] at this ⊢
        simp at this ⊢; omega
    exact (congrArg Fin.val h.eq_firstMin).symm
  · rw [if_neg hlt]
    have hle := not_lt.mp hlt
    have h : IsFirstMin D ⟨k₁.val, by omega⟩ := fun j => by
      by_cases hj : j.val < 4096
      · exact ⟨(h₁ ⟨j.val, hj⟩).1, fun e => (h₁ ⟨j.val, hj⟩).2 e⟩
      · have hs := h₂ ⟨j.val - 4096, by omega⟩
        have ej : (⟨4096 + (j.val - 4096), by omega⟩ : Fin 8192) = j := Fin.ext (by simp; omega)
        simp only [ej] at hs
        refine ⟨hle.trans hs.1, fun _ => ?_⟩
        rw [Fin.le_def]; simp; omega
    exact (congrArg Fin.val h.eq_firstMin).symm

/-- A left fold by a step that keeps, of two elements, one whose key is least ends at an element of least key among the
    initial one and the list's. -/
theorem foldl_least {α κ : Type} [Preorder κ] (key : α → κ) (f : α → α → α)
    (hf : ∀ a b, (f a b = a ∧ key a ≤ key b) ∨ (f a b = b ∧ key b ≤ key a)) (l : List α) (a : α) :
    l.foldl f a ∈ a :: l ∧ ∀ b ∈ a :: l, key (l.foldl f a) ≤ key b := by
  induction l generalizing a with
  | nil => simp
  | cons c l ih =>
    obtain ⟨hm, hle⟩ := ih (f a c)
    rw [List.foldl_cons]
    have hfac := hle (f a c) (by simp)
    refine ⟨?_, fun b hb => ?_⟩
    · rcases List.mem_cons.mp hm with h | h
      · rcases hf a c with ⟨e, _⟩ | ⟨e, _⟩ <;> rw [h, e] <;> simp
      · simp [h]
    · have hb' : b = a ∨ b = c ∨ b ∈ l := by simpa using hb
      rcases hb' with rfl | rfl | h
      · rcases hf b c with ⟨e, _⟩ | ⟨e, h⟩
        · exact hfac.trans (by rw [e])
        · exact hfac.trans (by rw [e]; exact h)
      · rcases hf a b with ⟨e, h⟩ | ⟨e, _⟩
        · exact hfac.trans (by rw [e]; exact h)
        · exact hfac.trans (by rw [e])
      · exact hle b (by simp [h])

/-- A (value, index word) pair's place in the order by value, then by the word's signed reading. -/
def pairKey (p : EReal × BitVec 32) : EReal ×ₗ Int := toLex (p.1, p.2.toInt)

/-- A fold that keeps the lesser of two (value, index word) pairs, from the pair (⊤, 0) over the pairs of a family of at
    most 8192 values, ends with the word of the first index of the minimum. -/
theorem foldl_pair_eq {n : Nat} [NeZero n] (hn : n ≤ 8192) (D : Fin n → EReal)
    (f : EReal × BitVec 32 → EReal × BitVec 32 → EReal × BitVec 32)
    (hf : ∀ a b, (f a b = a ∧ pairKey a ≤ pairKey b) ∨ (f a b = b ∧ pairKey b ≤ pairKey a))
    (l : List (EReal × BitVec 32)) (hl : ∀ p, p ∈ l ↔ ∃ k : Fin n, p = (D k, BitVec.ofNat 32 k.val)) :
    (l.foldl f (⊤, 0#32)).2 = BitVec.ofNat 32 (firstMin D).val := by
  obtain ⟨hm, hle⟩ := foldl_least pairKey f hf l (⊤, 0#32)
  have hs := firstMin_spec D
  have hk := Prod.Lex.toLex_le_toLex'.mp
    (hle (D (firstMin D), BitVec.ofNat 32 (firstMin D).val) (List.mem_cons_of_mem _ ((hl _).mpr ⟨_, rfl⟩)))
  rcases List.mem_cons.mp hm with h | h
  · rw [h] at hk ⊢
    have htop : D (firstMin D) = ⊤ := top_le_iff.mp hk.1
    have h0 := (hs 0).2 (by rw [htop]; exact top_le_iff.mp (htop ▸ (hs 0).1))
    have : (firstMin D).val = 0 := by have := Fin.le_def.mp h0; simpa using this
    rw [this]
  · obtain ⟨k, e⟩ := (hl _).mp h
    rw [e] at hk ⊢
    have eD : D k = D (firstMin D) := le_antisymm hk.1 (hs k).1
    have hi := hk.2 eD
    have h1 := k.isLt
    have h2 := (firstMin D).isLt
    simp only [] at hi
    rw [toInt_ofNat (by omega), toInt_ofNat (by omega)] at hi
    have := Fin.le_def.mp ((hs k).2 eD)
    have : k.val = (firstMin D).val := by omega
    rw [this]

end Cert.FirstMin

end
-- ==== Proof.Nearest.lean ====
/-
  The row of a codebook nearest to a token, on the extended reals, and the words and bits by which a program states it.
-/
module

public import proofs.«01_k».proof.Proof.FirstMin
public import Mathlib.Algebra.BigOperators.Group.Finset.Basic

@[expose] public section

set_option maxRecDepth 16384

noncomputable section

namespace Cert.Nearest

open Idealize.ShloMosaic Cert.FirstMin

/-- The squared distance of a token `x` to row `j` of a codebook `w`, as |x|² + |w_j|² − 2·⟨x, w_j⟩ (the factor 2 as its
    pattern). -/
def dist (x : Fin 64 → EReal) (w : Fin 8192 → Fin 64 → EReal) (j : Fin 8192) : EReal :=
  ∑ k, x k * x k + ∑ k, w j k * w j k - Ideal.ofBits FTy.f32 0x40000000#32 * ∑ k, x k * w j k

/-- The row of the codebook nearest to a token, the first one on a tie. -/
def nearest (x : Fin 64 → EReal) (w : Fin 8192 → Fin 64 → EReal) : Fin 8192 := firstMin (dist x w)

/-- The pattern of positive infinity denotes the greatest extended real. -/
theorem ofBits_inf : Ideal.ofBits FTy.f32 2139095040#32 = ⊤ := by
  simp [Ideal.ofBits, Ideal.ieee]

/-- The word selected from the two halves of a family of 8192 values is that of the first index of its minimum. -/
theorem halves_word (D : Fin 8192 → EReal) :
    (if Finset.univ.fold min ⊤ (fun x : Fin 4096 => D ⟨4096 + x.val, by omega⟩)
        < Finset.univ.fold min ⊤ (fun x : Fin 4096 => D ⟨x.val, by omega⟩) then
      IntOp.addi (Finset.univ.fold IntOp.minsi 2147483647#32 fun x : Fin 4096 =>
        if D ⟨4096 + x.val, by omega⟩ = Finset.univ.fold min ⊤ (fun x : Fin 4096 => D ⟨4096 + x.val, by omega⟩) then
          BitVec.ofNat 32 x.val else 8192#32) 4096#32
    else
      Finset.univ.fold IntOp.minsi 2147483647#32 fun x : Fin 4096 =>
        if D ⟨x.val, by omega⟩ = Finset.univ.fold min ⊤ (fun x : Fin 4096 => D ⟨x.val, by omega⟩) then
          BitVec.ofNat 32 x.val else 8192#32)
      = BitVec.ofNat 32 (firstMin D).val := by
  obtain ⟨k₁, h₁⟩ := exists_isFirstMin (fun x : Fin 4096 => D ⟨x.val, by omega⟩)
  obtain ⟨k₂, h₂⟩ := exists_isFirstMin (fun x : Fin 4096 => D ⟨4096 + x.val, by omega⟩)
  rw [fold_min_eq h₁, fold_min_eq h₂, fold_index_eq (by omega) h₁, fold_index_eq (by omega) h₂, firstMin_halves h₁ h₂]
  split
  · rw [IntOp.addi, Nat.add_comm, BitVec.ofNat_add]
  · rfl

/-- The conversion of an equality bit to a float is 1 where it holds and 0 elsewhere. -/
theorem bit_value (p : Prop) [Decidable p] (b : BitVec 1) (hb : b = 1#1 ↔ p) :
    ((b.toNat : ℝ) : EReal) = if p then 1 else 0 := by
  by_cases hp : p
  · rw [hb.mpr hp, if_pos hp]; simp
  · have : b = 0#1 := by
      have hne : b ≠ 1#1 := fun e => hp (hb.mp e)
      have : ∀ c : BitVec 1, c ≠ 1#1 → c = 0#1 := by decide
      exact this b hne
    rw [this, if_neg hp]; simp

/-- The same when the bit is widened to a word first and read with its sign. -/
theorem widened_bit_value (p : Prop) [Decidable p] (b : BitVec 1) (hb : b = 1#1 ↔ p) :
    (((BitVec.setWidth 32 b).toInt : ℝ) : EReal) = if p then 1 else 0 := by
  rw [← bit_value p b hb]
  have h : ∀ c : BitVec 1, (BitVec.setWidth 32 c).toInt = c.toNat := by decide
  rw [h b]; norm_cast

/-- Two indices below 8192 have the same 32-bit word exactly when they are equal. -/
theorem word_eq_iff (a b : Fin 8192) : BitVec.ofNat 32 a.val = BitVec.ofNat 32 b.val ↔ a = b := by
  refine ⟨fun h => ?_, fun h => by rw [h]⟩
  have := congrArg BitVec.toNat h
  rw [BitVec.toNat_ofNat, BitVec.toNat_ofNat] at this
  apply Fin.ext; omega

/-- The comparison of two indices' words is the bit 1 exactly when they are equal. -/
theorem cmpi_eq_iff (a b : Fin 8192) :
    IntOp.cmpi .eq (BitVec.ofNat 32 a.val) (BitVec.ofNat 32 b.val) = 1#1 ↔ a = b := by
  rw [← word_eq_iff a b]
  have h : ∀ c : Bool, BitVec.ofBool c = 1#1 ↔ c = true := by decide
  exact (h _).trans beq_iff_eq

end Cert.Nearest

end
-- ==== Proof.Block.lean ====
/-
  What one grid point computes on the extended reals, element by element: of a block of 512 tokens and the whole codebook
  the index of each token's nearest row, the one-hot rows of those indices, and their product with the codebook.
-/
module

public import proofs.«01_k».proof.Proof.Nearest
public import proofs.«01_k».proof.Proof.Gen.KernelIdeal.Frame
public import Idealize.ShloMosaic.Lib.Pointwise

@[expose] public section

set_option maxRecDepth 16384

noncomputable section

namespace Cert.KernelIdeal.Block

open Idealize.ShloMosaic Cert.KernelIdeal Cert.KernelIdeal.Gen Cert.Nearest

/-- The index the body selects for the block's token `r` is that of the nearest row of the codebook. -/
theorem index_apply (x : Vec Ideal S512x64 .f32) (w : Vec Ideal S8192x64 .f32) (r : Fin 512) :
    k0_pay4 (F := Ideal) x w (ix1 r)
      = BitVec.ofNat 32 (nearest (fun k => x (ix2 r k)) (fun j k => w (ix2 j k))).val := by
  pointwise [k0_pay4]
  simp only [ofBits_inf]
  exact halves_word (dist (fun k => x (ix2 r k)) (fun j k => w (ix2 j k)))

/-- The body's one-hot bits converted: 1 at the nearest row's index, 0 elsewhere. -/
theorem code_apply (x : Vec Ideal S512x64 .f32) (w : Vec Ideal S8192x64 .f32) (r : Fin 512) (j : Fin 8192) :
    k0_pay1 (F := Ideal) (k0_pay5 (F := Ideal) x w) (ix2 r j)
      = if j = nearest (fun k => x (ix2 r k)) (fun j k => w (ix2 j k)) then 1 else 0 := by
  pointwise [k0_pay1, k0_pay5]
  rw [index_apply]
  exact widened_bit_value _ _ (cmpi_eq_iff _ _)

/-- The body's product of the one-hot rows with the codebook: the sum over the codebook of code times row. -/
theorem decoded_apply (x : Vec Ideal S512x64 .f32) (w : Vec Ideal S8192x64 .f32) (r : Fin 512) (d : Fin 64) :
    k0_pay2 (F := Ideal) w (k0_pay5 (F := Ideal) x w) (ix2 r d)
      = ∑ j, (if j = nearest (fun k => x (ix2 r k)) (fun j k => w (ix2 j k)) then 1 else 0) * w (ix2 j d) := by
  pointwise [k0_pay2]
  exact Finset.sum_congr rfl fun j _ => congrArg (· * w (ix2 j d)) (code_apply x w r j)

/-- The body's indices under two unit axes. -/
theorem index_block_apply (x : Vec Ideal S512x64 .f32) (w : Vec Ideal S8192x64 .f32) (a b : Fin 1) (r : Fin 512) :
    k0_pay3 (k0_pay4 (F := Ideal) x w) (ix3 a b r)
      = BitVec.ofNat 32 (nearest (fun k => x (ix2 r k)) (fun j k => w (ix2 j k))).val := by
  pointwise [k0_pay3]
  exact index_apply x w r

end Cert.KernelIdeal.Block

end
-- ==== Proof.KernelValue.lean ====
/-
  The kernel's three result arrays after its run, as functions of the two argument arrays.
-/
module

public import proofs.«01_k».proof.Proof.Block
public import Idealize.ShloMosaic.Lib.Pipeline.ValueKit

@[expose] public section

set_option maxRecDepth 16384

noncomputable section

namespace Cert.KernelIdeal.Arrays

open Idealize.ShloMosaic Idealize.ShloMosaic.TcCoe Idealize.SL.Sem
open Cert.KernelIdeal Cert.KernelIdeal.Gen Cert.Nearest

variable (m : (ℓ : Loc nD τ sig) → Buf (Elt Ideal) ℓ) (ρ : Dev nD → PrngReg)

/-- The nearest row of the codebook (the second argument array) to token `r` (a row of the first). -/
def row (x w : S8192x64.Idx → EReal) (r : Fin 8192) : Fin 8192 :=
  nearest (fun k => x (ix2 r k)) (fun j k => w (ix2 j k))

/-- Place `r` of the `t`-th of 16 blocks of 512. -/
def at512 (t : Fin 16) (r : Fin 512) : Fin 8192 := ⟨t.val * 512 + r.val, by omega⟩

/-- The code of token `r` at column `j`: 1 at the nearest row's index and 0 elsewhere. -/
def code (x w : S8192x64.Idx → EReal) (r j : Fin 8192) : EReal := if j = row x w r then 1 else 0

/-- The array of codes. -/
def codes (x w : S8192x64.Idx → EReal) : S8192x8192.Idx → EReal := fun i => code x w (i 0) (i 1)

/-- The codes multiplied by the codebook. -/
def decoded (x w : S8192x64.Idx → EReal) : S8192x64.Idx → EReal :=
  fun i => ∑ j, code x w (i 0) j * w (ix2 j (i 1))

/-- The nearest rows' indices, as words. -/
def indices (x w : S8192x64.Idx → EReal) : S8192.Idx → BitVec 32 :=
  fun i => BitVec.ofNat 32 (row x w (i 0)).val

/-- The nearest rows' indices in 16 blocks of 512. -/
def blocks (x w : S8192x64.Idx → EReal) : S16x1x512.Idx → BitVec 32 :=
  fun i => BitVec.ofNat 32 (row x w (at512 (i 0) (i 2))).val

/-- The block of every window at every grid point: tokens, codes, decoded rows and indices move with the point, the
    codebook is one block. -/
theorem idx : ∀ t : Fin grid0.N, win0_0.index t = ![t.val, 0] ∧ win0_1.index t = ![0, 0] ∧ win0_2.index t = ![t.val, 0]
    ∧ win0_3.index t = ![t.val, 0] ∧ win0_4.index t = ![t.val, 0, 0] := by decide +kernel

/-- The token block of point `t` is rows 512·t … of the token array. -/
theorem iblk_tokens (c : Dev nD) (t : Fin cfg0.N) (r : Fin 512) (k : Fin 64) (h : t.val * 512 + r.val < 8192) :
    iblk m c 0 t (ix2 r k) = m ((c : Thread nD τ).loc main_arg0) (ix2 ⟨t.val * 512 + r.val, h⟩ k) := by
  blk_ext [iblk, V, idx t]

/-- The codebook block of every point is the codebook array. -/
theorem iblk_codebook (c : Dev nD) (t : Fin cfg0.N) (j : Fin 8192) (k : Fin 64) :
    iblk m c 1 t (ix2 j k) = m ((c : Thread nD τ).loc main_arg1) (ix2 j k) := by
  blk_ext [iblk, V, idx t]

/-- The one-hot bits of the body over its whole staging buffers. -/
theorem bits_eq (x : Vec Ideal S512x64 .f32) (w : Vec Ideal S8192x64 .f32) :
    k0_pay6 (F := Ideal) x w = k0_pay5 (F := Ideal) x w := by
  unfold k0_pay6
  rw [View.ld_unit_lit _ _ (by decide), View.ld_unit_lit _ _ (by decide)]

/-- Token `r` of point `t`'s block has the nearest row of token 512·t + r of the array. -/
theorem row_block (c : Dev nD) (t : Fin cfg0.N) (r : Fin 512) (h : t.val * 512 + r.val < 8192) :
    nearest (fun k => iblk m c 0 t (ix2 r k)) (fun j k => iblk m c 1 t (ix2 j k))
      = row (m ((c : Thread nD τ).loc main_arg0)) (m ((c : Thread nD τ).loc main_arg1)) ⟨t.val * 512 + r.val, h⟩ := by
  unfold row
  congr 1
  · funext k; exact iblk_tokens m c t r k h
  · funext j k; exact iblk_codebook m c t j k

/-- The encodings array after the run. -/
theorem codes_eq (c : Dev nD) : (dats m 0 c).arrAt 3 (cfgs 0).N
    = codes (m ((c : Thread nD τ).loc main_arg0)) (m ((c : Thread nD τ).loc main_arg1)) := by
  refine (dats m 0 c).arrAt_eq_of_covers 3 _ (by decide +kernel) fun t hf y => ?_
  blk_simp
  rw [after0_3]
  frame_out
  have ht : t.val < 16 := lt_of_lt_of_eq t.isLt N_0
  obtain ⟨r, j, rfl⟩ : ∃ (r : Fin 512) (j : Fin 8192), y = ix2 r j := ⟨y 0, y 1, by funext a; fin_cases a <;> rfl⟩
  have he : ((View.whole main_v0_1).slice (win0_3.rect t)).emb (ix2 r j)
      = ix2 (⟨t.val * 512 + r.val, by omega⟩ : Fin 8192) j := by blk_ext [idx t]
  rw [he, bits_eq, Block.code_apply, row_block m c t r (by omega)]
  rfl

/-- The array of decoded rows after the run. -/
theorem decoded_eq (c : Dev nD) : (dats m 0 c).arrAt 2 (cfgs 0).N
    = decoded (m ((c : Thread nD τ).loc main_arg0)) (m ((c : Thread nD τ).loc main_arg1)) := by
  refine (dats m 0 c).arrAt_eq_of_covers 2 _ (by decide +kernel) fun t hf y => ?_
  blk_simp
  rw [after0_2]
  frame_out
  have ht : t.val < 16 := lt_of_lt_of_eq t.isLt N_0
  obtain ⟨r, d, rfl⟩ : ∃ (r : Fin 512) (d : Fin 64), y = ix2 r d := ⟨y 0, y 1, by funext a; fin_cases a <;> rfl⟩
  have he : ((View.whole main_v0_0).slice (win0_2.rect t)).emb (ix2 r d)
      = ix2 (⟨t.val * 512 + r.val, by omega⟩ : Fin 8192) d := by blk_ext [idx t]
  rw [he, bits_eq, Block.decoded_apply, row_block m c t r (by omega)]
  refine Eq.trans ?_ (show _ = ∑ j, code (m ((c : Thread nD τ).loc main_arg0)) (m ((c : Thread nD τ).loc main_arg1)) _ j
    * m ((c : Thread nD τ).loc main_arg1) (ix2 j d) from rfl)
  simp only [iblk_codebook m c t]
  rfl

/-- The kernel's own array of indices after the run: 16 blocks of 512. -/
theorem blocks_eq (c : Dev nD) : (dats m 0 c).arrAt 4 (cfgs 0).N
    = blocks (m ((c : Thread nD τ).loc main_arg0)) (m ((c : Thread nD τ).loc main_arg1)) := by
  refine (dats m 0 c).arrAt_eq_of_covers 4 _ (by decide +kernel) fun t hf y => ?_
  blk_simp
  rw [after0_4]
  frame_out
  have ht : t.val < 16 := lt_of_lt_of_eq t.isLt N_0
  obtain ⟨a, b, r, rfl⟩ : ∃ (a b : Fin 1) (r : Fin 512), y = ix3 a b r :=
    ⟨y 0, y 1, y 2, by funext a; fin_cases a <;> rfl⟩
  have he : ((View.whole main_v0_2).slice (win0_4.rect t)).emb (ix3 a b r)
      = ix3 (⟨t.val, ht⟩ : Fin 16) 0 r := by blk_ext [idx t]
  rw [he, Block.index_block_apply, row_block m c t r (by omega)]
  rfl

/-- The blocks of indices, read as one vector. -/
theorem flat_eq (x w : S8192x64.Idx → EReal) :
    shapeCast S8192 (blocks x w) shapeCasts_S16x1x512_S8192 = indices x w := by
  funext j
  idx_vars j
  pointwise []
  refine congrArg (fun r : Fin 8192 => BitVec.ofNat 32 (row x w r).val) (Fin.ext ?_)
  exact (Nat.div_add_mod' j0.val 512)

/-- Every execution of the kernel ends with its three results at these functions of the arguments, and the arguments as
    they were. -/
theorem run : θ_run defs (onTc (τ := τ) (main (F := Ideal))) ⟨m, fun _ => 0, ρ⟩ fun r => ∀ c : Dev nD,
      r.2.mem ((c : Thread nD τ).loc main_v0_0)
        = decoded (m ((c : Thread nD τ).loc main_arg0)) (m ((c : Thread nD τ).loc main_arg1))
      ∧ r.2.mem ((c : Thread nD τ).loc main_v0_1)
        = codes (m ((c : Thread nD τ).loc main_arg0)) (m ((c : Thread nD τ).loc main_arg1))
      ∧ r.2.mem ((c : Thread nD τ).loc main_v1)
        = indices (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine θ_run_mono (run_main m ρ) fun r h c => ⟨((h c).1 2).trans (decoded_eq m c), ((h c).1 3).trans (codes_eq m c), ?_,
    ((h c).1 0).trans ((dats m 0 c).arrAt_in 0 rfl _), ((h c).1 1).trans ((dats m 0 c).arrAt_in 1 rfl _)⟩
  refine ((h c).2 main_v1 (by decide)).trans ?_
  unfold Pipeline.afterTail₀
  rw [show [hostOps1 (F := Ideal)].flatten = hostOps1 from List.append_nil _]
  unfold hostOps1
  after_results
  refine Eq.trans ?_ (flat_eq (m ((c : Thread nD τ).loc main_arg0)) (m ((c : Thread nD τ).loc main_arg1)))
  rw [← blocks_eq m c]
  exact congrArg (fun v => shapeCast S8192 v shapeCasts_S16x1x512_S8192)
    (Pipeline.withArrays_arr (cfgs 0).spec (by decide) c (V0 m c) (fun w => (dats m 0 c).arrAt w (cfgs 0).N) 4)

end Cert.KernelIdeal.Arrays

end
-- ==== Proof.ReferenceRun.lean ====
/-
  The reference's run: @main is a straight line of host operations, the bodies of its two module-local functions
  (the arg-min and the one-hot code) standing where they are called. Each result array is read off that line as the
  operations' composed term of the two argument arrays.
-/
module

public import proofs.«01_k».proof.Proof.Gen.ReferenceIdeal
public import Idealize.ShloMosaic.Lib.Claim
public import Idealize.ShloMosaic.Lib.Quiescent

@[expose] public section

set_option maxRecDepth 16384

noncomputable section

namespace Cert.ReferenceIdeal.Line

open Idealize.ShloMosaic Idealize.ShloMosaic.TcCoe Idealize.SL.Sem
open Cert.ReferenceIdeal Cert.ReferenceIdeal.Facts₀

variable {F : FTy → Type} [FloatOps F]

/-- The operations of @main in order, those of the two called functions in their places. -/
abbrev ops : List (HloOp τ sig (Elt F)) :=
  [ StableHlo.binary main_arg0 main_arg0 main_v0 (mulf : (⟨S8192x64, .f32⟩ : BufTy).Contents (Elt F) → (⟨S8192x64, .f32⟩ : BufTy).Contents (Elt F) → (⟨S8192x64, .f32⟩ : BufTy).Contents (Elt F)),
    StableHlo.nullary main_cst (constant S_ .f32 0x00000000#32),
    StableHlo.binary main_v0 main_cst main_v1 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v1 main_v2 (broadcastInDim S8192x1 ![0] bcast_S8192_S8192x1_0 : (⟨S8192, .f32⟩ : BufTy).Contents (Elt F) → (⟨S8192x1, .f32⟩ : BufTy).Contents (Elt F)),
    StableHlo.binary main_arg1 main_arg1 main_v3 (mulf : (⟨S8192x64, .f32⟩ : BufTy).Contents (Elt F) → (⟨S8192x64, .f32⟩ : BufTy).Contents (Elt F) → (⟨S8192x64, .f32⟩ : BufTy).Contents (Elt F)),
    StableHlo.nullary main_cst_0 (constant S_ .f32 0x00000000#32),
    StableHlo.binary main_v3 main_cst_0 main_v4 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v4 main_v5 (broadcastInDim S1x8192 ![1] bcast_S8192_S1x8192_1 : (⟨S8192, .f32⟩ : BufTy).Contents (Elt F) → (⟨S1x8192, .f32⟩ : BufTy).Contents (Elt F)),
    StableHlo.unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    StableHlo.unary main_arg1 main_v9 ((transpose S64x8192 [1, 0] · transposes_S8192x64_S64x8192_1_0) : (⟨S8192x64, .f32⟩ : BufTy).Contents (Elt F) → (⟨S64x8192, .f32⟩ : BufTy).Contents (Elt F)),
    StableHlo.binary main_arg0 main_v9 main_v10 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)),
    StableHlo.nullary main_cst_1 (constant S_ .f32 0x40000000#32),
    StableHlo.unary main_cst_1 main_v11 (broadcastInDim S8192x8192 ![] bcast_S_S8192x8192 : (⟨S_, .f32⟩ : BufTy).Contents (Elt F) → (⟨S8192x8192, .f32⟩ : BufTy).Contents (Elt F)),
    StableHlo.binary main_v11 main_v10 main_v12 (mulf : (⟨S8192x8192, .f32⟩ : BufTy).Contents (Elt F) → (⟨S8192x8192, .f32⟩ : BufTy).Contents (Elt F) → (⟨S8192x8192, .f32⟩ : BufTy).Contents (Elt F)),
    StableHlo.binary main_v8 main_v12 main_v13 (subf : (⟨S8192x8192, .f32⟩ : BufTy).Contents (Elt F) → (⟨S8192x8192, .f32⟩ : BufTy).Contents (Elt F) → (⟨S8192x8192, .f32⟩ : BufTy).Contents (Elt F)),
    StableHlo.nullary main_call0_v0 (iotaInDim S8192x8192 32 1),
    StableHlo.nullary main_call0_cst (constant S_ .f32 0x7F800000#32),
    StableHlo.nullary main_call0_c (constantI S_ 32 0#32),
    StableHlo.quaternary main_v13 main_call0_v0 main_call0_cst main_call0_c main_call0_v1_0 ((fun x y u v j => (Host.argReduce reducer_argmin_f32_i32 x y u v reducesTo_S8192x8192_S8192_d1 h_S_ j).1) : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .f32⟩ : BufTy).Contents (Elt F)),
    StableHlo.quaternary main_v13 main_call0_v0 main_call0_cst main_call0_c main_v14 ((fun x y u v j => (Host.argReduce reducer_argmin_f32_i32 x y u v reducesTo_S8192x8192_S8192_d1 h_S_ j).2) : (⟨S8192x8192, .f32⟩ : BufTy).Contents (Elt F) → (⟨S8192x8192, .i32⟩ : BufTy).Contents (Elt F) → (⟨S_, .f32⟩ : BufTy).Contents (Elt F) → (⟨S_, .i32⟩ : BufTy).Contents (Elt F) → (⟨S8192, .i32⟩ : BufTy).Contents (Elt F)),
    StableHlo.unary main_v14 main_call1_v0 (broadcastInDim S8192x1 ![0] bcast_S8192_S8192x1_0 : (⟨S8192, .i32⟩ : BufTy).Contents (Elt F) → (⟨S8192x1, .i32⟩ : BufTy).Contents (Elt F)),
    StableHlo.nullary main_call1_v1 (iotaInDim S1x8192 32 1),
    StableHlo.unary main_call1_v0 main_call1_v2 (broadcastInDim S8192x8192 ![0, 1] bcast_S8192x1_S8192x8192_0_1 : (⟨S8192x1, .i32⟩ : BufTy).Contents (Elt F) → (⟨S8192x8192, .i32⟩ : BufTy).Contents (Elt F)),
    StableHlo.unary main_call1_v1 main_call1_v3 (broadcastInDim S8192x8192 ![0, 1] bcast_S1x8192_S8192x8192_0_1 : (⟨S1x8192, .i32⟩ : BufTy).Contents (Elt F) → (⟨S8192x8192, .i32⟩ : BufTy).Contents (Elt F)),
    StableHlo.binary main_call1_v2 main_call1_v3 main_call1_v4 (cmpi .eq : (⟨S8192x8192, .i32⟩ : BufTy).Contents (Elt F) → (⟨S8192x8192, .i32⟩ : BufTy).Contents (Elt F) → (⟨S8192x8192, .i1⟩ : BufTy).Contents (Elt F)),
    StableHlo.unary main_call1_v4 main_v15 (uitofp .f32 : (⟨S8192x8192, .i1⟩ : BufTy).Contents (Elt F) → (⟨S8192x8192, .f32⟩ : BufTy).Contents (Elt F)),
    StableHlo.binary main_v15 main_arg1 main_v16 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F))]

/-- @main performs exactly these operations. -/
theorem main_seq (d : Dev nD) : StableHlo.IsSeq (main (F := F) d) ops := rfl

/-- The squared distances of every token to every codebook row: |x|² + |w|² − 2·⟨x, w⟩. -/
def distances (x w : FVec F S8192x64 .f32) : FVec F S8192x8192 .f32 :=
  subf
    (addf
      (broadcastInDim S8192x8192 ![0, 1] bcast_S8192x1_S8192x8192_0_1
        (broadcastInDim S8192x1 ![0] bcast_S8192_S8192x1_0
          (Host.reduceAdd (mulf x x) (constant S_ .f32 0x00000000#32) reducesTo_S8192x64_S8192_d1 h_S_)))
      (broadcastInDim S8192x8192 ![0, 1] bcast_S1x8192_S8192x8192_0_1
        (broadcastInDim S1x8192 ![1] bcast_S8192_S1x8192_1
          (Host.reduceAdd (mulf w w) (constant S_ .f32 0x00000000#32) reducesTo_S8192x64_S8192_d1 h_S_))))
    (mulf (broadcastInDim S8192x8192 ![] bcast_S_S8192x8192 (constant S_ .f32 0x40000000#32))
      (Host.dotGeneral dot_S8192x64_S64x8192_S8192x8192_1_0_0_1_n_n none x
        (transpose S64x8192 [1, 0] w transposes_S8192x64_S64x8192_1_0)))

/-- The arg-min of each row of an array of distances. -/
def nearest (D : FVec F S8192x8192 .f32) : IVec S8192 32 := fun j =>
  (Host.argReduce reducer_argmin_f32_i32 D (iotaInDim S8192x8192 32 1) (constant S_ .f32 0x7F800000#32)
    (constantI S_ 32 0#32) reducesTo_S8192x8192_S8192_d1 h_S_ j).2

/-- The one-hot rows of an array of indices. -/
def oneHot (i : IVec S8192 32) : FVec F S8192x8192 .f32 :=
  uitofp .f32
    (cmpi .eq
      (broadcastInDim S8192x8192 ![0, 1] bcast_S8192x1_S8192x8192_0_1
        (broadcastInDim S8192x1 ![0] bcast_S8192_S8192x1_0 i))
      (broadcastInDim S8192x8192 ![0, 1] bcast_S1x8192_S8192x8192_0_1 (iotaInDim S1x8192 32 1)))

/-- The product of an array of codes with the codebook. -/
def decoded (e : FVec F S8192x8192 .f32) (w : FVec F S8192x64 .f32) : FVec F S8192x64 .f32 :=
  Host.dotGeneral dot_S8192x8192_S8192x64_S8192x64_1_0_0_1_n_n none e w

/-- Every execution of the reference ends with the three results at their composed terms and the arguments as
    they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v14)
        = nearest (distances (m ((c : Thread nD τ).loc main_arg0)) (m ((c : Thread nD τ).loc main_arg1)))
      ∧ r.2.mem ((c : Thread nD τ).loc main_v15)
        = oneHot (nearest (distances (m ((c : Thread nD τ).loc main_arg0)) (m ((c : Thread nD τ).loc main_arg1))))
      ∧ r.2.mem ((c : Thread nD τ).loc main_v16)
        = decoded (oneHot (nearest (distances (m ((c : Thread nD τ).loc main_arg0)) (m ((c : Thread nD τ).loc main_arg1)))))
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  run_from (StableHlo.run_hlo (ops := ops) _ _ main_seq (by decide) (by decide) (by simp)
      (by intro _ h; (repeat (cases h with | head => rfl | tail _ h => ?_)); exact nomatch h) _ _)
  all_goals rfl

/-- The reference's frame: its arguments end unchanged and every semaphore counter reads zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => (h c).2.2.2, sem_eq_zero_of_no_sems (by decide) r.2⟩) (run m ρ)

end Cert.ReferenceIdeal.Line

end
-- ==== Proof.ReferenceSearch.lean ====
/-
  The reference's search along the rows of an array of distances: it returns the word of the first index of the least one.
-/
module

public import proofs.«01_k».proof.Proof.ReferenceRun
public import proofs.«01_k».proof.Proof.Nearest
public import Idealize.ShloMosaic.Lib.Pipeline.ValueKit

@[expose] public section

set_option maxRecDepth 16384

noncomputable section

namespace Cert.ReferenceIdeal.Search

open Idealize.ShloMosaic Idealize.ShloMosaic.TcCoe Idealize.SL.Sem
open Cert.ReferenceIdeal Cert.FirstMin

/-- The step of the reference's search keeps the smaller pair: by value, then by index. -/
theorem step_least (a b : EReal × BitVec 32) :
    (reducer_argmin_f32_i32 (F := Ideal) a b = a ∧ pairKey a ≤ pairKey b)
      ∨ (reducer_argmin_f32_i32 (F := Ideal) a b = b ∧ pairKey b ≤ pairKey a) := by
  obtain ⟨a1, a2⟩ := a
  obtain ⟨b1, b2⟩ := b
  unfold reducer_argmin_f32_i32 pairKey
  rcases lt_trichotomy a1 b1 with h | h | h
  · left
    refine ⟨?_, Prod.Lex.toLex_le_toLex'.mpr ⟨h.le, fun e => absurd e h.ne⟩⟩
    simp [Ideal.cmpf_def, Ideal.cmp, h, h.ne, IntOp.ori, IntOp.andi, Scalar.select]
  · subst h
    by_cases hs : a2.slt b2 = true
    · left
      refine ⟨?_, Prod.Lex.toLex_le_toLex'.mpr ⟨le_rfl, fun _ => (BitVec.slt_iff_toInt_lt.mp hs).le⟩⟩
      simp [Ideal.cmpf_def, Ideal.cmp, hs, IntOp.ori, IntOp.andi, IntOp.cmpi, Scalar.select]
    · right
      refine ⟨?_, Prod.Lex.toLex_le_toLex'.mpr ⟨le_rfl, fun _ => not_lt.mp fun k => hs (BitVec.slt_iff_toInt_lt.mpr k)⟩⟩
      simp [Ideal.cmpf_def, Ideal.cmp, hs, IntOp.ori, IntOp.andi, IntOp.cmpi, Scalar.select]
  · right
    refine ⟨?_, Prod.Lex.toLex_le_toLex'.mpr ⟨h.le, fun e => absurd e h.ne⟩⟩
    simp [Ideal.cmpf_def, Ideal.cmp, h.not_gt, h.ne', IntOp.ori, IntOp.andi, Scalar.select]

section
variable {s t u : Shape} {axes : List (Fin s.rank)}

/-- A search of the host over the extended reals is the fold of its step over the pairs of the reduced entries. -/
theorem search_eq (f : EReal × BitVec 32 → EReal × BitVec 32 → EReal × BitVec 32) (x : s.Idx → EReal) (y : s.Idx → BitVec 32)
    (ix : u.Idx → EReal) (iy : u.Idx → BitVec 32) (h : s.ReducesTo axes t) (hu : 0 < u.numel) (j : t.Idx) :
    Host.argReduce (F := Ideal) (φ := .f32) f x y ix iy h hu j
      = (Host.argReduceFiber x y h j).foldl f (ix (Shape.Idx.first hu), iy (Shape.Idx.first hu)) := by
  rw [Ideal.argReduce_eq_reduce2, Host.reduce2_eq_foldl_fiber]

/-- The pairs a search folds are those at the source entries that reduce to its place. -/
theorem mem_fiber (x : s.Idx → EReal) (y : s.Idx → BitVec 32) (h : s.ReducesTo axes t) (j : t.Idx) (p : EReal × BitVec 32) :
    p ∈ Host.argReduceFiber x y h j ↔ ∃ i, h.drop i = j ∧ p = (x i, y i) := by
  simp only [Host.argReduceFiber, List.mem_map, List.mem_filter, List.mem_finRange, true_and, decide_eq_true_eq]
  constructor
  · rintro ⟨n, hn, rfl⟩; exact ⟨_, hn, rfl⟩
  · rintro ⟨i, hi, rfl⟩; exact ⟨s.rowMajor i, by rw [Equiv.symm_apply_apply]; exact ⟨hi, rfl⟩⟩

end

section
variable {n0 n1 : Nat} [NeZero n1] {u : Shape}

/-- Along the rows of a matrix of at most 8192 columns, from the pair (⊤, 0), with the columns' numbers for indices, the
    search returns the word of the first index of the row's minimum. -/
theorem search_rows (hn : n1 ≤ 8192) (f : EReal × BitVec 32 → EReal × BitVec 32 → EReal × BitVec 32)
    (hf : ∀ a b, (f a b = a ∧ pairKey a ≤ pairKey b) ∨ (f a b = b ∧ pairKey b ≤ pairKey a))
    (x : (⟨2, ![n0, n1]⟩ : Shape).Idx → EReal) (y : (⟨2, ![n0, n1]⟩ : Shape).Idx → BitVec 32)
    (hy : ∀ (r : Fin n0) (k : Fin n1), y (ix2 r k) = BitVec.ofNat 32 k.val)
    (ix : u.Idx → EReal) (iy : u.Idx → BitVec 32) (h : (⟨2, ![n0, n1]⟩ : Shape).ReducesTo [1] ⟨1, ![n0]⟩) (hu : 0 < u.numel)
    (hx : ix (Shape.Idx.first hu) = ⊤) (hi : iy (Shape.Idx.first hu) = 0#32) :
    (fun j => (Host.argReduce (F := Ideal) (φ := .f32) f x y ix iy h hu j).2)
      = fun j => BitVec.ofNat 32 (firstMin fun k => x (ix2 (j 0) k)).val := by
  funext j
  rw [search_eq, hx, hi]
  refine foldl_pair_eq hn _ f hf _ fun p => ?_
  rw [mem_fiber]
  constructor
  · rintro ⟨i, hd, rfl⟩
    obtain ⟨k, rfl⟩ := (h.fiber_r2_a1 _ i).mp hd
    exact ⟨k, congrArg (Prod.mk _) (hy _ k)⟩
  · rintro ⟨k, rfl⟩
    exact ⟨ix2 (j 0) k, (h.fiber_r2_a1 _ _).mpr ⟨k, rfl⟩, congrArg (Prod.mk _) (hy (j 0) k).symm⟩

end

end Cert.ReferenceIdeal.Search

end
-- ==== Proof.ReferenceValue.lean ====
/-
  The reference's three results, as the same functions of the two argument arrays as the kernel's.
-/
module

public import proofs.«01_k».proof.Proof.ReferenceSearch
public import proofs.«01_k».proof.Proof.Nearest
public import Idealize.ShloMosaic.Lib.Pipeline.ValueKit

@[expose] public section

set_option maxRecDepth 16384

noncomputable section

namespace Cert.ReferenceIdeal.Values

open Idealize.ShloMosaic Idealize.ShloMosaic.TcCoe Idealize.SL.Sem
open Cert.ReferenceIdeal Cert.ReferenceIdeal.Gen Cert.ReferenceIdeal.Line Cert.Nearest Cert.FirstMin

/-- The distance array, entry by entry. -/
theorem distances_apply (x w : FVec Ideal S8192x64 .f32) (r j : Fin 8192) :
    distances x w (ix2 r j) = Nearest.dist (fun k => x (ix2 r k)) (fun j k => w (ix2 j k)) j := by
  pointwise [distances]
  rfl

/-- The index array of the search holds the columns' numbers. -/
theorem columns (r k : Fin 8192) : iotaInDim S8192x8192 32 1 (ix2 r k) = BitVec.ofNat 32 k.val := rfl

/-- The search's start value is the greatest extended real. -/
theorem start : constant (F := Ideal) S_ .f32 0x7F800000#32 (Shape.Idx.first h_S_) = (⊤ : EReal) := ofBits_inf

/-- The reference's search, written out. -/
theorem nearest_unfold (D : FVec Ideal S8192x8192 .f32) :
    Line.nearest D = fun j => (Host.argReduce (F := Ideal) (φ := .f32) reducer_argmin_f32_i32 D (iotaInDim S8192x8192 32 1)
      (constant S_ .f32 0x7F800000#32) (constantI S_ 32 0#32) reducesTo_S8192x8192_S8192_d1 h_S_ j).2 := rfl

/-- The reference's search returns, row by row, the word of the first index of the row's minimum. -/
theorem nearest_eq (D : FVec Ideal S8192x8192 .f32) :
    Line.nearest D = fun j => BitVec.ofNat 32 (firstMin fun k => D (ix2 (j 0) k)).val := by
  have h := Search.search_rows (n0 := 8192) (n1 := 8192) le_rfl (reducer_argmin_f32_i32 (F := Ideal)) Search.step_least D
    (iotaInDim S8192x8192 32 1) columns (constant (F := Ideal) S_ .f32 0x7F800000#32) (constantI S_ 32 0#32)
    reducesTo_S8192x8192_S8192_d1 h_S_ start rfl
  exact (nearest_unfold D).trans h

/-- On the distances it is the nearest row. -/
theorem nearest_apply (x w : FVec Ideal S8192x64 .f32) (r : Fin 8192) :
    Line.nearest (distances x w) (ix1 r)
      = BitVec.ofNat 32 (Nearest.nearest (fun k => x (ix2 r k)) (fun j k => w (ix2 j k))).val := by
  rw [nearest_eq]
  refine congrArg (fun D : Fin 8192 → EReal => BitVec.ofNat 32 (firstMin D).val) ?_
  funext k
  exact distances_apply x w r k

/-- The reference's codes, entry by entry. -/
theorem oneHot_apply (i : Fin 8192 → Fin 8192) (v : IVec S8192 32) (hv : ∀ r, v (ix1 r) = BitVec.ofNat 32 (i r).val)
    (r j : Fin 8192) : oneHot (F := Ideal) v (ix2 r j) = if j = i r then 1 else 0 := by
  pointwise [oneHot]
  rw [hv]
  exact bit_value _ _ ((cmpi_eq_iff _ _).trans eq_comm)

/-- The reference's decoded rows, entry by entry. -/
theorem decoded_apply (e : FVec Ideal S8192x8192 .f32) (w : FVec Ideal S8192x64 .f32) (r : Fin 8192) (d : Fin 64) :
    decoded e w (ix2 r d) = ∑ j : Fin 8192, e (ix2 r j) * w (ix2 j d) := by
  pointwise [decoded]

end Cert.ReferenceIdeal.Values

end
-- ==== Proof.Agree.lean ====
/-
  The reference's three results are the same functions of the arguments as the kernel's.
-/
module

public import proofs.«01_k».proof.Proof.KernelValue
public import proofs.«01_k».proof.Proof.ReferenceValue

@[expose] public section

set_option maxRecDepth 16384

noncomputable section

namespace Cert.Agree

open Idealize.ShloMosaic Idealize.ShloMosaic.TcCoe Idealize.SL.Sem
open Cert.ReferenceIdeal Cert.ReferenceIdeal.Gen Cert.ReferenceIdeal.Values Cert.KernelIdeal.Arrays

/-- The reference's indices are the kernel's. -/
theorem indices_eq (x w : FVec Ideal S8192x64 .f32) : Line.nearest (Line.distances x w) = indices x w := by
  funext i
  idx_vars i
  exact nearest_apply x w _

/-- The reference's codes are the kernel's. -/
theorem codes_eq (x w : FVec Ideal S8192x64 .f32) :
    Line.oneHot (F := Ideal) (Line.nearest (Line.distances x w)) = codes x w := by
  funext i
  idx_vars i
  exact oneHot_apply (row x w) _ (nearest_apply x w) _ _

/-- The reference's decoded rows are the kernel's. -/
theorem decoded_eq (x w : FVec Ideal S8192x64 .f32) :
    Line.decoded (Line.oneHot (F := Ideal) (Line.nearest (Line.distances x w))) w = decoded x w := by
  rw [codes_eq]
  funext i
  idx_vars i
  exact decoded_apply (codes x w) w _ _

variable (m : (ℓ : Loc nD τ sig) → Buf (Elt Ideal) ℓ) (ρ : Dev nD → PrngReg)

/-- Every execution of the reference ends with its three results at the kernel's functions of the arguments, and the
    arguments as they were. -/
theorem run : θ_run defs (onTc (τ := τ) (main (F := Ideal))) ⟨m, fun _ => 0, ρ⟩ fun r => ∀ c : Dev nD,
      r.2.mem ((c : Thread nD τ).loc main_v16)
        = decoded (m ((c : Thread nD τ).loc main_arg0)) (m ((c : Thread nD τ).loc main_arg1))
      ∧ r.2.mem ((c : Thread nD τ).loc main_v15)
        = codes (m ((c : Thread nD τ).loc main_arg0)) (m ((c : Thread nD τ).loc main_arg1))
      ∧ r.2.mem ((c : Thread nD τ).loc main_v14)
        = indices (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  θ_run_mono (Line.run m ρ) fun _ h c =>
    ⟨(h c).2.2.1.trans (decoded_eq _ _), (h c).2.1.trans (codes_eq _ _), (h c).1.trans (indices_eq _ _), (h c).2.2.2.1,
      (h c).2.2.2.2⟩

end Cert.Agree

end
-- ==== Proof.lean ====
/-
  The claims of this certificate, assembled: the runs of the three programs, and the equality of the kernel's three
  results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.ReferenceRun
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel and the reference end with equal results: from equal arguments both hold the decoded rows, the codes and
    the indices of the nearest codebook rows. -/
theorem algebraic : algebraic_KernelIdeal_ReferenceIdeal (hKernelIdeal := Cert.KernelIdeal.Gen.facts)
    (hReferenceIdeal := Cert.ReferenceIdeal.Gen.facts) := by
  intro m g m' g' _ hargs
  refine ⟨_, _, _, Cert.KernelIdeal.Arrays.run m g, θ_run_mono (Cert.Agree.run m' g') fun r h c => ?_⟩
  have ha := (hargs c).1
  have hb := (hargs c).2
  obtain ⟨h0, h1, h2, h3, h4⟩ := h c
  rw [ha, hb] at h0 h1 h2
  exact ⟨h0, h1, h2, h3, h4⟩

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Line.frame m g, trivial, algebraic⟩

end Cert.Proof

end
